-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x128 : Shape := ⟨2, ![10000, 128]⟩
abbrev S2x320000 : Shape := ⟨2, ![2, 320000]⟩
abbrev S320000x4 : Shape := ⟨2, ![320000, 4]⟩
abbrev S64x6 : Shape := ⟨2, ![64, 6]⟩
abbrev S10000 : Shape := ⟨1, ![10000]⟩
abbrev S134x512 : Shape := ⟨2, ![134, 512]⟩
abbrev S512 : Shape := ⟨1, ![512]⟩
abbrev S512x512 : Shape := ⟨2, ![512, 512]⟩
abbrev S512x128 : Shape := ⟨2, ![512, 128]⟩
abbrev S128 : Shape := ⟨1, ![128]⟩
abbrev S10000x1 : Shape := ⟨2, ![10000, 1]⟩
abbrev S6x512 : Shape := ⟨2, ![6, 512]⟩
abbrev S128x512 : Shape := ⟨2, ![128, 512]⟩
abbrev S1x512 : Shape := ⟨2, ![1, 512]⟩
abbrev S1x128 : Shape := ⟨2, ![1, 128]⟩
abbrev S64x128 : Shape := ⟨2, ![64, 128]⟩
abbrev S10000x64 : Shape := ⟨2, ![10000, 64]⟩
abbrev S64 : Shape := ⟨1, ![64]⟩
abbrev S64x1 : Shape := ⟨2, ![64, 1]⟩
abbrev S64x512 : Shape := ⟨2, ![64, 512]⟩

abbrev nBuf : Space → Nat
  | .hbm => 18
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S320000x4, .f32⟩
  | .hbm, ⟨3, _⟩ => ⟨S64x6, .f32⟩
  | .hbm, ⟨4, _⟩ => ⟨S10000, .i32⟩
  | .hbm, ⟨5, _⟩ => ⟨S134x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x128, .f32⟩
  | .hbm, ⟨10, _⟩ => ⟨S128, .f32⟩
  | .hbm, ⟨11, _⟩ => ⟨S10000x1, .i32⟩
  | .hbm, ⟨12, _⟩ => ⟨S6x512, .f32⟩
  | .hbm, ⟨13, _⟩ => ⟨S128x512, .f32⟩
  | .hbm, ⟨14, _⟩ => ⟨S1x512, .f32⟩
  | .hbm, ⟨15, _⟩ => ⟨S1x512, .f32⟩
  | .hbm, ⟨16, _⟩ => ⟨S1x128, .f32⟩
  | .hbm, ⟨17, _⟩ => ⟨S64x128, .f32⟩
  | .local _ .vmem, ⟨0, _⟩ => ⟨S10000x128, .f32⟩
  | .local _ .vmem, ⟨1, _⟩ => ⟨S10000x1, .i32⟩
  | .local _ .vmem, ⟨2, _⟩ => ⟨S64x6, .f32⟩
  | .local _ .vmem, ⟨3, _⟩ => ⟨S6x512, .f32⟩
  | .local _ .vmem, ⟨4, _⟩ => ⟨S128x512, .f32⟩
  | .local _ .vmem, ⟨5, _⟩ => ⟨S1x512, .f32⟩
  | .local _ .vmem, ⟨6, _⟩ => ⟨S512x512, .f32⟩
  | .local _ .vmem, ⟨7, _⟩ => ⟨S1x512, .f32⟩
  | .local _ .vmem, ⟨8, _⟩ => ⟨S512x128, .f32⟩
  | .local _ .vmem, ⟨9, _⟩ => ⟨S1x128, .f32⟩
  | .local _ .vmem, ⟨10, _⟩ => ⟨S64x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S10000x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x6 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== ReferenceIdeal.lean ====
abbrev S10000x128 : Shape := ⟨2, ![10000, 128]⟩
abbrev S2x320000 : Shape := ⟨2, ![2, 320000]⟩
abbrev S320000x4 : Shape := ⟨2, ![320000, 4]⟩
abbrev S64x6 : Shape := ⟨2, ![64, 6]⟩
abbrev S10000 : Shape := ⟨1, ![10000]⟩
abbrev S134x512 : Shape := ⟨2, ![134, 512]⟩
abbrev S512 : Shape := ⟨1, ![512]⟩
abbrev S512x512 : Shape := ⟨2, ![512, 512]⟩
abbrev S512x128 : Shape := ⟨2, ![512, 128]⟩
abbrev S128 : Shape := ⟨1, ![128]⟩
abbrev S_ : Shape := ⟨0, ![]⟩
abbrev S64x128 : Shape := ⟨2, ![64, 128]⟩
abbrev S10000x1 : Shape := ⟨2, ![10000, 1]⟩
abbrev S64x1 : Shape := ⟨2, ![64, 1]⟩
abbrev S64x134 : Shape := ⟨2, ![64, 134]⟩
abbrev S64x512 : Shape := ⟨2, ![64, 512]⟩
abbrev S1x512 : Shape := ⟨2, ![1, 512]⟩
abbrev S1x128 : Shape := ⟨2, ![1, 128]⟩

abbrev nBuf : Space → Nat
  | .hbm => 45
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S320000x4, .f32⟩
  | .hbm, ⟨3, _⟩ => ⟨S64x6, .f32⟩
  | .hbm, ⟨4, _⟩ => ⟨S10000, .i32⟩
  | .hbm, ⟨5, _⟩ => ⟨S134x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x128, .f32⟩
  | .hbm, ⟨10, _⟩ => ⟨S128, .f32⟩
  | .hbm, ⟨11, _⟩ => ⟨S_, .f32⟩
  | .hbm, ⟨12, _⟩ => ⟨S64x128, .f32⟩
  | .hbm, ⟨13, _⟩ => ⟨S10000x1, .i32⟩
  | .hbm, ⟨14, _⟩ => ⟨S64x128, .f32⟩
  | .hbm, ⟨15, _⟩ => ⟨S_, .f32⟩
  | .hbm, ⟨16, _⟩ => ⟨S10000x1, .f32⟩
  | .hbm, ⟨17, _⟩ => ⟨S_, .f32⟩
  | .hbm, ⟨18, _⟩ => ⟨S64x1, .f32⟩
  | .hbm, ⟨19, _⟩ => ⟨S10000x1, .i32⟩
  | .hbm, ⟨20, _⟩ => ⟨S64x1, .f32⟩
  | .hbm, ⟨21, _⟩ => ⟨S_, .f32⟩
  | .hbm, ⟨22, _⟩ => ⟨S64x1, .f32⟩
  | .hbm, ⟨23, _⟩ => ⟨S64x1, .f32⟩
  | .hbm, ⟨24, _⟩ => ⟨S64x128, .f32⟩
  | .hbm, ⟨25, _⟩ => ⟨S64x128, .f32⟩
  | .hbm, ⟨26, _⟩ => ⟨S64x134, .f32⟩
  | .hbm, ⟨27, _⟩ => ⟨S64x512, .f32⟩
  | .hbm, ⟨28, _⟩ => ⟨S1x512, .f32⟩
  | .hbm, ⟨29, _⟩ => ⟨S64x512, .f32⟩
  | .hbm, ⟨30, _⟩ => ⟨S64x512, .f32⟩
  | .hbm, ⟨31, _⟩ => ⟨S_, .f32⟩
  | .hbm, ⟨32, _⟩ => ⟨S64x512, .f32⟩
  | .hbm, ⟨33, _⟩ => ⟨S64x512, .f32⟩
  | .hbm, ⟨34, _⟩ => ⟨S64x512, .f32⟩
  | .hbm, ⟨35, _⟩ => ⟨S1x512, .f32⟩
  | .hbm, ⟨36, _⟩ => ⟨S64x512, .f32⟩
  | .hbm, ⟨37, _⟩ => ⟨S64x512, .f32⟩
  | .hbm, ⟨38, _⟩ => ⟨S_, .f32⟩
  | .hbm, ⟨39, _⟩ => ⟨S64x512, .f32⟩
  | .hbm, ⟨40, _⟩ => ⟨S64x512, .f32⟩
  | .hbm, ⟨41, _⟩ => ⟨S64x128, .f32⟩
  | .hbm, ⟨42, _⟩ => ⟨S1x128, .f32⟩
  | .hbm, ⟨43, _⟩ => ⟨S64x128, .f32⟩
  | .hbm, ⟨44, _⟩ => ⟨S64x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_call0_cst : Ref sig .tc := ⟨.hbm, 31, rfl⟩
abbrev main_call0_v0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_call1_cst : Ref sig .tc := ⟨.hbm, 38, rfl⟩
abbrev main_call1_v0 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩

abbrev nD : Nat := 1
abbrev τ : Topo := Topo.v7x

variable {F : FTy → Type} [FloatOps F]
-- ==== Proof.SegmentSum.lean ====
/-
  Sums over a segment, at the ideal values. Every row `n` of an [N, D] array carries a segment number, a signed word; the sum of
  segment `g` adds the rows whose word is `g`. Two programs compute it: an accumulating scatter of the rows into a [G, D] array, and
  a contraction of the rows with the 0/1 matrix whose entry (n, g) says that row `n` belongs to segment `g`. Both are read here, at
  one element, as the sum over all rows of the row's element where the row belongs to the segment and of zero elsewhere. A word that
  is no segment number (negative, or `G` and up) belongs to no segment: the scatter drops its row and its matrix row is zero.
-/
module

public import Idealize.ShloMosaic.PureOps.Ideal.Laws
public import Idealize.ShloMosaic.Lib.IdealHost
public import Idealize.ShloMosaic.Lib.KernelVsHost
public import Idealize.ShloMosaic.Lib.Routing.OpsPair
public import Idealize.ShloMosaic.Lib.StableHlo.Predicate

@[expose] public section

noncomputable section

namespace Cert.Proof.Segment

open Idealize.ShloMosaic Idealize.ShloMosaic.ValueIdx Idealize.ShloMosaic.Routing
open scoped BigOperators

/-! ## The accumulating scatter -/

/-- Element `f` of update row `n` lands at (g, e) exactly when the row's index word, read signed, is `g`, and `f` is `e`. -/
theorem lands {G D N : Nat} (d : ScatterDims (shape2 G D) (shape2 N 1) (shape2 N D)) (huw : d.updateWindowDims = [1])
    (hiw : d.insertedWindowDims = [0]) (hsd : d.scatterDimsToOperandDims = [0]) (hiv : d.indexVectorDim = 1)
    (idx : IVec (shape2 N 1) 32) (n : Fin N) (f : Fin D) (g : Fin G) (e : Fin D) :
    d.resultIdx? (ix2 n f) idx = some (ix2 g e) ↔ (idx (ix2 n 0)).toInt = (g.val : Int) ∧ f = e := by
  obtain ⟨uw, iw, sd, iv, wf⟩ := d
  dsimp only at huw hiw hsd hiv
  subst huw hiw hsd hiv
  rw [resultIdx?_ix2]
  have w0 : ScatterDims.window ⟨[1], [0], [0], 1, wf⟩ (ix2 n f) (0 : Fin 2) = 0 := rfl
  have w1 : ScatterDims.window ⟨[1], [0], [0], 1, wf⟩ (ix2 n f) (1 : Fin 2) = f.val := rfl
  have s1 : ScatterDims.start ⟨[1], [0], [0], 1, wf⟩ (ix2 n f) idx (1 : Fin 2) = 0 := rfl
  have s0 : ScatterDims.start ⟨[1], [0], [0], 1, wf⟩ (ix2 n f) idx (0 : Fin 2) = (idx (ix2 n 0)).toInt := by
    unfold ScatterDims.start
    rw [dif_pos (List.mem_singleton.2 rfl)]
    refine congrArg (fun i => (idx i).toInt) (funext fun b => ?_)
    match b with
    | ⟨0, _⟩ => rfl
    | ⟨1, _⟩ => rfl
  rw [w0, w1, s0, s1, Fin.ext_iff]
  omega

/-- The scatter read at (g, e): the operand's element plus, over all rows, the row's element `e` where the row's word is `g`. -/
theorem scatterAdd_apply {G D N : Nat} (d : ScatterDims (shape2 G D) (shape2 N 1) (shape2 N D)) (huw : d.updateWindowDims = [1])
    (hiw : d.insertedWindowDims = [0]) (hsd : d.scatterDimsToOperandDims = [0]) (hiv : d.indexVectorDim = 1)
    (x : FVec Ideal (shape2 G D) .f32) (idx : IVec (shape2 N 1) 32) (upd : FVec Ideal (shape2 N D) .f32) (g : Fin G) (e : Fin D) :
    Host.scatterAdd d x idx upd (ix2 g e)
      = x (ix2 g e) + ∑ n : Fin N, if (idx (ix2 n 0)).toInt = (g.val : Int) then upd (ix2 n e) else 0 := by
  show Ideal.hostScatterAdd d x idx upd (ix2 g e) = _
  unfold Ideal.hostScatterAdd
  rw [Finset.sum_filter, ValueIdx.sum_idx2]
  refine congrArg (x (ix2 g e) + ·) (Finset.sum_congr rfl fun n _ => ?_)
  simp only [lands d huw hiw hsd hiv idx n _ g e]
  by_cases h : (idx (ix2 n 0)).toInt = (g.val : Int)
  · simp only [h, true_and, if_true]
    rw [Finset.sum_ite_eq' Finset.univ e]
    exact if_pos (Finset.mem_univ e)
  · simp only [h, false_and, if_false, Finset.sum_const_zero]

/-! ## The membership matrix -/

/-- The membership bit, converted to a float: one where the word, read signed, is the segment number, zero elsewhere. -/
theorem member_value {G : Nat} (hG : G ≤ 2 ^ 31) (b : BitVec 32) (g : Fin G) :
    (((IntOp.cmpi .eq b (BitVec.ofNat 32 g.val)).toNat : ℝ) : EReal) = if b.toInt = (g.val : Int) then 1 else 0 := by
  have hg : (BitVec.ofNat 32 g.val).toInt = (g.val : Int) :=
    StableHlo.Predicate.toInt_ofNat_small _ (lt_of_lt_of_le g.isLt hG)
  by_cases h : b.toInt = (g.val : Int)
  · have hb : b = BitVec.ofNat 32 g.val := BitVec.eq_of_toInt_eq (h.trans hg.symm)
    rw [if_pos h, hb]
    simp [IntOp.cmpi]
  · have hb : b ≠ BitVec.ofNat 32 g.val := fun q => h (q ▸ hg)
    rw [if_neg h]
    simp [IntOp.cmpi, hb]

/-- A product with a membership value keeps the other factor or is zero. -/
theorem member_mul (p : Prop) [Decidable p] (y : EReal) : (if p then (1 : EReal) else 0) * y = if p then y else 0 := by
  split
  · exact one_mul y
  · exact zero_mul y

end Cert.Proof.Segment

end
-- ==== Proof.Means.lean ====
/-
  The segment means, at the ideal values. Row `n` of the [10000, 128] array `x` belongs to the segment that word `n` of `b` names,
  one of 64. The kernel builds the [10000, 64] membership matrix, contracts it with `x` for the sums and adds up its columns for the
  counts; the reference scatters the rows, and a one per row, into zeros. Both divide the sums by the counts, a count of zero taken
  as one. Sum by sum and count by count the two are equal (Proof/SegmentSum.lean), for any words and any values of `x`.
-/
module

public import proofs.«01_k».proof.Defs
public import proofs.«01_k».proof.Proof.Gen.KernelIdeal
public import proofs.«01_k».proof.Proof.Gen.ReferenceIdeal
public import proofs.«01_k».proof.Proof.SegmentSum
public import Idealize.ShloMosaic.Lib.Pipeline.Value
public import Idealize.ShloMosaic.Lib.Pointwise
public import Idealize.ShloMosaic.Lib.ValueLayoutCasts

@[expose] public section

noncomputable section

namespace Cert.Proof.Means

open Idealize.ShloMosaic hiding ix1 ix2 eq_ix2
open Idealize.ShloMosaic.ValueIdx Cert.Proof.Segment
open Cert.KernelIdeal.Gen Cert.ReferenceIdeal.Gen
open scoped BigOperators

/-! ## The kernel's terms -/

section Kernel
open Cert.KernelIdeal

/-- The kernel's membership matrix: the segment words against the column numbers, as floats. -/
def member (b : IVec S10000x1 32) : FVec Ideal S10000x64 .f32 :=
  sitofp .f32 (extui 32 (cmpi .eq (broadcastTo S10000x64 b broadcasts_S10000x1_S10000x64)
    (iota .tc S10000x64 32 [1] iota_S10000x64_d1_w32)) natLt_1_32)

/-- The kernel's segment sums. -/
def kernelSum (b : IVec S10000x1 32) (x : FVec Ideal S10000x128 .f32) : FVec Ideal S64x128 .f32 :=
  matmul dot_S10000x64_S10000x128_S64x128_0_0_1_1_n_n (some .fp32) (member b) x (constant S64x128 .f32 0x00000000#32)

/-- The kernel's segment counts, as a column. -/
def kernelCount (b : IVec S10000x1 32) : FVec Ideal S64x1 .f32 :=
  shapeCast S64x1 (multiReduction .add [0] S64 (member b) 0x00000000#32 reduces_S10000x64_S64 (.inl rfl) rfl) shapeCasts_S64_S64x1

/-- The kernel's segment means. -/
def kernelMean (b : IVec S10000x1 32) (x : FVec Ideal S10000x128 .f32) : FVec Ideal S64x128 .f32 :=
  divf (kernelSum b x) (broadcastTo S64x128 (maximumf (kernelCount b)
    (broadcast S64x1 (Scalar.ofBits (F := Ideal) .f32 0x3F800000#32))) broadcasts_S64x1_S64x128)

/-- Entry (n, g) of the membership matrix: one where row `n`'s word is `g`, zero elsewhere. -/
theorem member_apply (b : IVec S10000x1 32) (n : Fin 10000) (g : Fin 64) :
    member b (ix2 n g) = if (b (ix2 n 0)).toInt = (g.val : Int) then 1 else 0 := by
  unfold member
  rw [sitofp_extui_eq_uitofp]
  have hb : broadcastTo S10000x64 b broadcasts_S10000x1_S10000x64 (ix2 n g) = b (ix2 n 0) :=
    broadcastTo_apply b _ (ix2 n g) (ix2 n 0) fun a => by
      match a with
      | ⟨0, _⟩ => rfl
      | ⟨1, _⟩ => rfl
  have hi : iota .tc S10000x64 32 [1] iota_S10000x64_d1_w32 (ix2 n g) = BitVec.ofNat 32 g.val := by
    rw [iota_apply]
    exact congrArg (BitVec.ofNat 32) (show 0 * 64 + g.val = g.val by omega)
  show (((IntOp.cmpi .eq (broadcastTo S10000x64 b broadcasts_S10000x1_S10000x64 (ix2 n g))
    (iota .tc S10000x64 32 [1] iota_S10000x64_d1_w32 (ix2 n g))).toNat : ℝ) : EReal) = _
  rw [hb, hi]
  exact member_value (by norm_num) _ g

/-- The kernel's sum at (g, e): over all rows, the row's element `e` where the row belongs to `g`. -/
theorem kernelSum_apply (b : IVec S10000x1 32) (x : FVec Ideal S10000x128 .f32) (g : Fin 64) (e : Fin 128) :
    kernelSum b x (ix2 g e) = ∑ n : Fin 10000, if (b (ix2 n 0)).toInt = (g.val : Int) then x (ix2 n e) else 0 := by
  unfold kernelSum
  show FloatOps.matmul dot_S10000x64_S10000x128_S64x128_0_0_1_1_n_n (some .fp32) (member b) x (constant S64x128 .f32 0x00000000#32)
    (ix2 g e) = _
  rw [Ideal.matmul_constant_zero_apply, DotDims.sum_contr₁ _ (a := 0) rfl (K := 10000) rfl]
  refine Finset.sum_congr rfl fun n _ => ?_
  have el : dot_S10000x64_S10000x128_S64x128_0_0_1_1_n_n.lhsIdx (ix2 g e)
      (dot_S10000x64_S10000x128_S64x128_0_0_1_1_n_n.contrIdx₁ (a := 0) rfl (K := 10000) rfl n) = ix2 n g := by
    funext a
    match a with
    | ⟨0, _⟩ => rfl
    | ⟨1, _⟩ => rfl
  have er : dot_S10000x64_S10000x128_S64x128_0_0_1_1_n_n.rhsIdx (ix2 g e)
      (dot_S10000x64_S10000x128_S64x128_0_0_1_1_n_n.contrIdx₁ (a := 0) rfl (K := 10000) rfl n) = ix2 n e := by
    funext a
    match a with
    | ⟨0, _⟩ => rfl
    | ⟨1, _⟩ => rfl
  rw [el, er, member_apply, member_mul]

/-- The kernel's count at `g`: over all rows, one where the row belongs to `g`. -/
theorem kernelCount_apply (b : IVec S10000x1 32) (g : Fin 64) (u : Fin 1) :
    kernelCount b (ix2 g u) = ∑ n : Fin 10000, if (b (ix2 n 0)).toInt = (g.val : Int) then 1 else 0 := by
  unfold kernelCount
  rw [shapeCast_a_a1_apply]
  refine (Ideal.multiReduction_add_single (member b) _ _ _ _ (ix1 g)).trans ?_
  refine Finset.sum_congr rfl fun n _ => ?_
  have el : reduces_S10000x64_S64.lift (ix1 g) n = ix2 n g := by
    funext a
    match a with
    | ⟨0, _⟩ => rfl
    | ⟨1, _⟩ => rfl
  exact (congrArg (member b) el).trans (member_apply b n g)

/-- The kernel's mean at (g, e): the sum over the count, a count below one taken as one. -/
theorem kernelMean_apply (b : IVec S10000x1 32) (x : FVec Ideal S10000x128 .f32) (g : Fin 64) (e : Fin 128) :
    kernelMean b x (ix2 g e) = Ideal.div (kernelSum b x (ix2 g e)) (max (kernelCount b (ix2 g 0)) 1) := by
  have hb : ∀ v : FVec Ideal S64x1 .f32, broadcastTo S64x128 v broadcasts_S64x1_S64x128 (ix2 g e) = v (ix2 g 0) := fun v =>
    broadcastTo_apply v _ (ix2 g e) (ix2 g 0) fun a => by
      match a with
      | ⟨0, _⟩ => rfl
      | ⟨1, _⟩ => rfl
  unfold kernelMean
  rw [divf_apply, hb]
  show Ideal.div _ (max (kernelCount b (ix2 g 0)) (Ideal.ofBits .f32 0x3F800000#32)) = _
  rw [Ideal.ofBits_one_f32]

end Kernel

/-! ## The reference's terms -/

section Reference
open Cert.ReferenceIdeal

/-- The reference's segment sums. -/
def referenceSum (b : IVec S10000x1 32) (x : FVec Ideal S10000x128 .f32) : FVec Ideal S64x128 .f32 :=
  Host.scatterAdd scatter_S64x128_S10000x1_S10000x128_1_0_0_1
    (broadcastInDim S64x128 ![] bcast_S_S64x128 (constant S_ .f32 0x00000000#32)) b x

/-- The reference's segment counts. -/
def referenceCount (b : IVec S10000x1 32) : FVec Ideal S64x1 .f32 :=
  Host.scatterAdd scatter_S64x1_S10000x1_S10000x1_1_0_0_1
    (broadcastInDim S64x1 ![] bcast_S_S64x1 (constant S_ .f32 0x00000000#32)) b
    (broadcastInDim S10000x1 ![] bcast_S_S10000x1 (constant S_ .f32 0x3F800000#32))

/-- The reference's segment means. -/
def referenceMean (b : IVec S10000x1 32) (x : FVec Ideal S10000x128 .f32) : FVec Ideal S64x128 .f32 :=
  Host.divf (referenceSum b x) (broadcastInDim S64x128 ![0, 1] bcast_S64x1_S64x128_0_1
    (maximumf (referenceCount b) (broadcastInDim S64x1 ![] bcast_S_S64x1 (constant S_ .f32 0x3F800000#32))))

/-- The reference's sum at (g, e). -/
theorem referenceSum_apply (b : IVec S10000x1 32) (x : FVec Ideal S10000x128 .f32) (g : Fin 64) (e : Fin 128) :
    referenceSum b x (ix2 g e) = ∑ n : Fin 10000, if (b (ix2 n 0)).toInt = (g.val : Int) then x (ix2 n e) else 0 := by
  unfold referenceSum
  rw [scatterAdd_apply _ rfl rfl rfl rfl, broadcastInDim_scalar_apply]
  show Ideal.ofBits .f32 0x00000000#32 + _ = _
  rw [Ideal.ofBits_zero_f32, zero_add]

/-- The reference's count at `g`. -/
theorem referenceCount_apply (b : IVec S10000x1 32) (g : Fin 64) (u : Fin 1) :
    referenceCount b (ix2 g u) = ∑ n : Fin 10000, if (b (ix2 n 0)).toInt = (g.val : Int) then 1 else 0 := by
  unfold referenceCount
  have h1 : (broadcastInDim S10000x1 ![] bcast_S_S10000x1 (constant S_ .f32 0x3F800000#32) : FVec Ideal S10000x1 .f32) = fun _ => 1 :=
    funext fun i => (broadcastInDim_scalar_apply _ _ i).trans Ideal.ofBits_one_f32
  rw [h1, scatterAdd_apply _ rfl rfl rfl rfl, broadcastInDim_scalar_apply]
  show Ideal.ofBits .f32 0x00000000#32 + _ = _
  rw [Ideal.ofBits_zero_f32, zero_add]

/-- The reference's mean at (g, e): the sum over the count, a count below one taken as one. -/
theorem referenceMean_apply (b : IVec S10000x1 32) (x : FVec Ideal S10000x128 .f32) (g : Fin 64) (e : Fin 128) :
    referenceMean b x (ix2 g e) = Ideal.div (referenceSum b x (ix2 g e)) (max (referenceCount b (ix2 g 0)) 1) := by
  have hb : ∀ v : FVec Ideal S64x1 .f32, broadcastInDim S64x128 ![0, 1] bcast_S64x1_S64x128_0_1 v (ix2 g e) = v (ix2 g 0) := fun v =>
    broadcastInDim_apply _ _ v (ix2 g e) (ix2 g 0) fun a => by
      match a with
      | ⟨0, _⟩ => rfl
      | ⟨1, _⟩ => rfl
  have h1 : broadcastInDim S64x1 ![] bcast_S_S64x1 (constant (F := Ideal) S_ .f32 0x3F800000#32) (ix2 g 0) = 1 :=
    (broadcastInDim_scalar_apply _ _ _).trans Ideal.ofBits_one_f32
  unfold referenceMean
  rw [hostDivf_apply, hb]
  show Ideal.div _ (max (referenceCount b (ix2 g 0)) (broadcastInDim S64x1 ![] bcast_S_S64x1 (constant (F := Ideal) S_ .f32 0x3F800000#32) (ix2 g 0))) = _
  rw [h1]

end Reference

/-! ## The equality -/

open Cert.KernelIdeal in
/-- The two programs' segment means agree at (g, e). -/
theorem mean_apply_eq (b : IVec S10000x1 32) (x : FVec Ideal S10000x128 .f32) (g : Fin 64) (e : Fin 128) :
    kernelMean b x (ix2 g e) = referenceMean b x (ix2 g e) := by
  have hs : kernelSum b x (ix2 g e) = referenceSum b x (ix2 g e) :=
    (kernelSum_apply b x g e).trans (referenceSum_apply b x g e).symm
  have hc : kernelCount b (ix2 g 0) = referenceCount b (ix2 g 0) :=
    (kernelCount_apply b g 0).trans (referenceCount_apply b g 0).symm
  rw [kernelMean_apply, referenceMean_apply, hs, hc]

open Cert.KernelIdeal in
/-- The two programs' segment means are equal. -/
theorem mean_eq (b : IVec S10000x1 32) (x : FVec Ideal S10000x128 .f32) : kernelMean b x = referenceMean b x := by
  funext j
  rw [eq_ix2 j]
  exact mean_apply_eq b x (j 0) (j 1)

end Cert.Proof.Means

end
-- ==== Proof.Layers.lean ====
/-
  The three dense layers, at the ideal values. The kernel's payload and the reference's composed term, each a function of the nine
  arrays that the program reads, are equal. The first layer's weight array is [134, 512]: the kernel multiplies its first 6 rows by
  the globals and its last 128 by the segment means and adds the two products, while the reference joins globals and means into one
  [64, 134] array and multiplies once; a sum over 134 indices is the sum over the first 6 plus the sum over the last 128. The other
  layers are the same operations in both programs, the bias row repeated by a different chain of shape changes.
-/
module

public import proofs.«01_k».proof.Proof.Means
public import proofs.«01_k».proof.Proof.Gen.KernelIdeal.Skeleton
public import Idealize.ShloMosaic.Lib.ValueLayout
public import Idealize.ShloMosaic.Lib.StackMember

@[expose] public section

noncomputable section

namespace Cert.Proof.Layers

open Idealize.ShloMosaic hiding ix1 ix2 eq_ix2
open Idealize.ShloMosaic.ValueIdx Cert.Proof.Means
open Cert.KernelIdeal.Gen Cert.ReferenceIdeal.Gen
open scoped BigOperators

/-! ## Shape changes -/

/-- A vector laid as a row and repeated down `m` rows: the kernel's chain of casts and a broadcast is the host's two broadcasts. -/
theorem bias_eq {m n : Nat} (v : FVec Ideal ⟨1, ![n]⟩ .f32) (h1 : (⟨1, ![n]⟩ : Shape).ShapeCasts ⟨2, ![1, n]⟩)
    (h2 : (⟨2, ![1, n]⟩ : Shape).ShapeCasts ⟨2, ![1, n]⟩) (hb : (⟨2, ![1, n]⟩ : Shape).Broadcasts ⟨2, ![m, n]⟩)
    (hd : (⟨1, ![n]⟩ : Shape).BroadcastsInDim ⟨2, ![1, n]⟩ ![1]) (hr : (⟨2, ![1, n]⟩ : Shape).BroadcastsInDim ⟨2, ![m, n]⟩ ![0, 1]) :
    broadcastTo ⟨2, ![m, n]⟩ (shapeCast ⟨2, ![1, n]⟩ (shapeCast ⟨2, ![1, n]⟩ v h1) h2) hb
      = broadcastInDim ⟨2, ![m, n]⟩ ![0, 1] hr (broadcastInDim ⟨2, ![1, n]⟩ ![1] hd v) := by
  have key : ∀ (r : Fin m) (t : Fin n),
      broadcastTo ⟨2, ![m, n]⟩ (shapeCast ⟨2, ![1, n]⟩ (shapeCast ⟨2, ![1, n]⟩ v h1) h2) hb (ix2 r t)
        = broadcastInDim ⟨2, ![m, n]⟩ ![0, 1] hr (broadcastInDim ⟨2, ![1, n]⟩ ![1] hd v) (ix2 r t) := fun r t => by
    rw [shapeCast_self, broadcastTo_1b_ab_apply, shapeCast_a_1a_apply, broadcastInDim_oneRow_apply]
    refine (broadcastInDim_apply _ hd v (ix2 0 t) (ix1 t) fun a => ?_).symm
    match a with
    | ⟨0, _⟩ =>
      show t.val = if n = 1 then 0 else t.val
      have := t.isLt
      split <;> omega
  funext j
  rw [eq_ix2 j]
  exact key (j 0) (j 1)

/-- A vector stood up as a column: the cast is the host's broadcast. -/
theorem column_eq {n : Nat} (v : IVec ⟨1, ![n]⟩ 32) (h : (⟨1, ![n]⟩ : Shape).ShapeCasts ⟨2, ![n, 1]⟩)
    (hd : (⟨1, ![n]⟩ : Shape).BroadcastsInDim ⟨2, ![n, 1]⟩ ![0]) :
    shapeCast ⟨2, ![n, 1]⟩ v h = broadcastInDim ⟨2, ![n, 1]⟩ ![0] hd v := by
  have key : ∀ (r : Fin n) (t : Fin 1),
      shapeCast ⟨2, ![n, 1]⟩ v h (ix2 r t) = broadcastInDim ⟨2, ![n, 1]⟩ ![0] hd v (ix2 r t) := fun r t => by
    rw [shapeCast_a_a1_apply]
    refine (broadcastInDim_apply _ hd v (ix2 r t) (ix1 r) fun a => ?_).symm
    match a with
    | ⟨0, _⟩ =>
      show r.val = if n = 1 then 0 else r.val
      have := r.isLt
      split <;> omega
  funext j
  rw [eq_ix2 j]
  exact key (j 0) (j 1)

/-! ## The first layer's product -/

/-- A product with two arrays joined along their columns is the sum of the products with the weight array's two bands of rows. -/
theorem joined_product {m p q n : Nat} (A : FVec Ideal ⟨2, ![m, p]⟩ .f32) (B : FVec Ideal ⟨2, ![m, q]⟩ .f32)
    (W : FVec Ideal ⟨2, ![p + q, n]⟩ .f32) (pr₁ pr₂ pr₃ : Option ContractPrecision)
    (hc : Shape.Concatenates [⟨2, ![m, p]⟩, ⟨2, ![m, q]⟩] (⟨2, ![m, p + q]⟩ : Shape) 1)
    (h0 : (⟨2, ![p + q, n]⟩ : Shape).Slices ![0, 0] ⟨2, ![p, n]⟩) (h1 : (⟨2, ![p + q, n]⟩ : Shape).Slices ![p, 0] ⟨2, ![q, n]⟩) :
    addf (Host.dotGeneral (DotDims.plain m p n) pr₁ A (extractStridedSlice ⟨2, ![p, n]⟩ ![0, 0] W h0))
        (Host.dotGeneral (DotDims.plain m q n) pr₂ B (extractStridedSlice ⟨2, ![q, n]⟩ ![p, 0] W h1))
      = Host.dotGeneral (DotDims.plain m (p + q) n) pr₃ (concatenate ⟨2, ![m, p + q]⟩ 1 [⟨_, A⟩, ⟨_, B⟩] hc) W := by
  have key : ∀ (r : Fin m) (t : Fin n),
      addf (Host.dotGeneral (DotDims.plain m p n) pr₁ A (extractStridedSlice ⟨2, ![p, n]⟩ ![0, 0] W h0))
        (Host.dotGeneral (DotDims.plain m q n) pr₂ B (extractStridedSlice ⟨2, ![q, n]⟩ ![p, 0] W h1)) (ix2 r t)
      = Host.dotGeneral (DotDims.plain m (p + q) n) pr₃ (concatenate ⟨2, ![m, p + q]⟩ 1 [⟨_, A⟩, ⟨_, B⟩] hc) W (ix2 r t) := fun r t => by
    rw [addf_apply, StackMember.dotGeneral_plain_apply, StackMember.dotGeneral_plain_apply, StackMember.dotGeneral_plain_apply, Fin.sum_univ_add]
    refine congr (congrArg (fun a b : EReal => a + b) (Finset.sum_congr rfl fun k _ => ?_)) (Finset.sum_congr rfl fun k _ => ?_)
    · rw [slice2_axis0_apply 0 W h0 k t (Fin.castAdd q k) (by simp)]
      rw [concatenate_pair_apply_left 1 A B hc (ix2 r (Fin.castAdd q k)) rfl (ix2 r k) (fun b => by
        match b with
        | ⟨0, _⟩ => rfl
        | ⟨1, _⟩ => rfl)]
    · rw [slice2_axis0_apply p W h1 k t (Fin.natAdd p k) (by simp)]
      rw [concatenate_pair_apply_right 1 A B hc (ix2 r (Fin.natAdd p k)) rfl rfl (ix2 r k) (fun b hb => by
        match b with
        | ⟨0, _⟩ => rfl
        | ⟨1, _⟩ => exact (hb rfl).elim) (Nat.add_comm _ _)]
  funext j
  rw [eq_ix2 j]
  exact key (j 0) (j 1)

/-! ## The two programs' outputs -/

section Kernel
open Cert.KernelIdeal

/-- The kernel's output, of the nine arrays it reads. -/
def kernelOut (x : FVec Ideal S10000x128 .f32) (u : FVec Ideal S64x6 .f32) (b : IVec S10000 32) (W1 : FVec Ideal S134x512 .f32)
    (b1 : FVec Ideal S512 .f32) (W2 : FVec Ideal S512x512 .f32) (b2 : FVec Ideal S512 .f32) (W3 : FVec Ideal S512x128 .f32)
    (b3 : FVec Ideal S128 .f32) : FVec Ideal S64x128 .f32 :=
  k0_pay1 (F := Ideal)
    (k0_pay2 (F := Ideal) (shapeCast S10000x1 b shapeCasts_S10000_S10000x1) x u
      (extractStridedSlice S6x512 ![0, 0] W1 slices_S134x512_S6x512_0_0)
      (extractStridedSlice S128x512 ![6, 0] W1 slices_S134x512_S128x512_6_0)
      (shapeCast S1x512 b1 shapeCasts_S512_S1x512) W2 (shapeCast S1x512 b2 shapeCasts_S512_S1x512))
    (k0_pay3 (F := Ideal)) W3 (shapeCast S1x128 b3 shapeCasts_S128_S1x128)

end Kernel

section Reference
open Cert.ReferenceIdeal

/-- A layer's output made nonnegative, as the reference spells it. -/
def relu (y : FVec Ideal S64x512 .f32) : FVec Ideal S64x512 .f32 :=
  maximumf y (broadcastInDim S64x512 ![] bcast_S_S64x512 (constant S_ .f32 0x00000000#32))

/-- A 512-wide bias row repeated, as the reference spells it. -/
def bias512 (v : FVec Ideal S512 .f32) : FVec Ideal S64x512 .f32 :=
  broadcastInDim S64x512 ![0, 1] bcast_S1x512_S64x512_0_1 (broadcastInDim S1x512 ![1] bcast_S512_S1x512_1 v)

/-- A 128-wide bias row repeated, as the reference spells it. -/
def bias128 (v : FVec Ideal S128 .f32) : FVec Ideal S64x128 .f32 :=
  broadcastInDim S64x128 ![0, 1] bcast_S1x128_S64x128_0_1 (broadcastInDim S1x128 ![1] bcast_S128_S1x128_1 v)

/-- The reference's output, of the nine arrays it reads. -/
def referenceOut (x : FVec Ideal S10000x128 .f32) (u : FVec Ideal S64x6 .f32) (b : IVec S10000 32) (W1 : FVec Ideal S134x512 .f32)
    (b1 : FVec Ideal S512 .f32) (W2 : FVec Ideal S512x512 .f32) (b2 : FVec Ideal S512 .f32) (W3 : FVec Ideal S512x128 .f32)
    (b3 : FVec Ideal S128 .f32) : FVec Ideal S64x128 .f32 :=
  addf (Host.dotGeneral dot_S64x512_S512x128_S64x128_1_0_0_1_n_n none
    (relu (addf (Host.dotGeneral dot_S64x512_S512x512_S64x512_1_0_0_1_n_n none
      (relu (addf (Host.dotGeneral dot_S64x134_S134x512_S64x512_1_0_0_1_n_n none
        (concatenate S64x134 1 [⟨S64x6, u⟩, ⟨S64x128, referenceMean (broadcastInDim S10000x1 ![0] bcast_S10000_S10000x1_0 b) x⟩]
          concatenates_S64x6_S64x128_S64x134_d1) W1) (bias512 b1))) W2) (bias512 b2))) W3) (bias128 b3)

end Reference

/-! ## Their equality -/

open Cert.KernelIdeal in
/-- The kernel's zero array is the reference's. -/
theorem zeros_eq : (broadcast S64x512 (Scalar.ofBits (F := Ideal) .f32 0x00000000#32) : FVec Ideal S64x512 .f32)
    = broadcastInDim S64x512 ![] Cert.ReferenceIdeal.Facts₀.bcast_S_S64x512 (constant Cert.ReferenceIdeal.S_ .f32 0x00000000#32) :=
  funext fun j => Eq.symm (broadcastInDim_scalar_apply Cert.ReferenceIdeal.Facts₀.bcast_S_S64x512
    (constant (F := Ideal) Cert.ReferenceIdeal.S_ .f32 0x00000000#32) j)

open Cert.KernelIdeal in
/-- The kernel's first layer before its bias: the two products added are the reference's one product. -/
theorem first_product (u : FVec Ideal S64x6 .f32) (y : FVec Ideal S64x128 .f32) (W1 : FVec Ideal S134x512 .f32) :
    addf (matmul dot_S64x6_S6x512_S64x512_1_0_0_1_n_n none u
          (extractStridedSlice S6x512 ![0, 0] W1 slices_S134x512_S6x512_0_0) (constant S64x512 .f32 0x00000000#32))
        (matmul dot_S64x128_S128x512_S64x512_1_0_0_1_n_n (some .fp32) y
          (extractStridedSlice S128x512 ![6, 0] W1 slices_S134x512_S128x512_6_0) (constant S64x512 .f32 0x00000000#32))
      = Host.dotGeneral Cert.ReferenceIdeal.dot_S64x134_S134x512_S64x512_1_0_0_1_n_n none
          (concatenate Cert.ReferenceIdeal.S64x134 1 [⟨S64x6, u⟩, ⟨S64x128, y⟩] Cert.ReferenceIdeal.Facts₀.concatenates_S64x6_S64x128_S64x134_d1) W1 := by
  rw [matmul_zero_eq_dotGeneral, matmul_zero_eq_dotGeneral]
  exact joined_product (m := 64) (p := 6) (q := 128) (n := 512) u y W1 _ _ _ _ _ _

open Cert.KernelIdeal in
/-- The kernel's payload up to the second layer's bias, its segment means named. -/
theorem pay2_eq (c : IVec S10000x1 32) (x : FVec Ideal S10000x128 .f32) (u : FVec Ideal S64x6 .f32) (Wu : FVec Ideal S6x512 .f32)
    (Wx : FVec Ideal S128x512 .f32) (r1 : FVec Ideal S1x512 .f32) (W2 : FVec Ideal S512x512 .f32) (r2 : FVec Ideal S1x512 .f32) :
    k0_pay2 (F := Ideal) c x u Wu Wx r1 W2 r2
      = addf (matmul dot_S64x512_S512x512_S64x512_1_0_0_1_n_n (some .fp32)
          (maximumf (addf
            (addf (matmul dot_S64x6_S6x512_S64x512_1_0_0_1_n_n none u Wu (constant S64x512 .f32 0x00000000#32))
              (matmul dot_S64x128_S128x512_S64x512_1_0_0_1_n_n (some .fp32) (kernelMean c x) Wx (constant S64x512 .f32 0x00000000#32)))
            (broadcastTo S64x512 (shapeCast S1x512 r1 shapeCasts_S1x512_S1x512) broadcasts_S1x512_S64x512))
            (broadcast S64x512 (Scalar.ofBits (F := Ideal) .f32 0x00000000#32)))
          W2 (constant S64x512 .f32 0x00000000#32))
        (broadcastTo S64x512 (shapeCast S1x512 r2 shapeCasts_S1x512_S1x512) broadcasts_S1x512_S64x512) := by
  unfold k0_pay2
  simp only [shapeCast_self c, shapeCast_self Wu, shapeCast_self Wx]
  rfl

open Cert.KernelIdeal in
/-- For any arrays, the kernel's output is the reference's. -/
theorem out_eq (x : FVec Ideal S10000x128 .f32) (u : FVec Ideal S64x6 .f32) (b : IVec S10000 32) (W1 : FVec Ideal S134x512 .f32)
    (b1 : FVec Ideal S512 .f32) (W2 : FVec Ideal S512x512 .f32) (b2 : FVec Ideal S512 .f32) (W3 : FVec Ideal S512x128 .f32)
    (b3 : FVec Ideal S128 .f32) : kernelOut x u b W1 b1 W2 b2 W3 b3 = referenceOut x u b W1 b1 W2 b2 W3 b3 := by
  have hm := mean_eq (shapeCast S10000x1 b shapeCasts_S10000_S10000x1) x
  rw [column_eq b shapeCasts_S10000_S10000x1 Cert.ReferenceIdeal.Facts₀.bcast_S10000_S10000x1_0] at hm
  unfold kernelOut k0_pay1 k0_pay3
  rw [pay2_eq, column_eq b shapeCasts_S10000_S10000x1 Cert.ReferenceIdeal.Facts₀.bcast_S10000_S10000x1_0, hm, first_product, zeros_eq]
  dsimp only
  rw [matmul_zero_eq_dotGeneral, matmul_zero_eq_dotGeneral,
    bias_eq b1 _ _ _ Cert.ReferenceIdeal.Facts₀.bcast_S512_S1x512_1 Cert.ReferenceIdeal.Facts₀.bcast_S1x512_S64x512_0_1,
    bias_eq b2 _ _ _ Cert.ReferenceIdeal.Facts₀.bcast_S512_S1x512_1 Cert.ReferenceIdeal.Facts₀.bcast_S1x512_S64x512_0_1,
    bias_eq b3 _ _ _ Cert.ReferenceIdeal.Facts₀.bcast_S128_S1x128_1 Cert.ReferenceIdeal.Facts₀.bcast_S1x128_S64x128_0_1]
  rfl

end Cert.Proof.Layers

end
-- ==== Proof.KernelRun.lean ====
/-
  The kernel's run with its value, at the ideal values. The kernel is one launch with no grid: every array is staged whole, the body
  computes its result from the staged arrays and stores it over the whole result buffer, which is written back. So the result array
  ends at the body's payload of what the arrays hold when the launch starts. Six of them are made by the operations before the
  launch, which reshape the segment words and the three biases and cut the first weight array into its two bands of rows.
-/
module

public import proofs.«01_k».proof.Proof.Gen.KernelIdeal.Value
public import proofs.«01_k».proof.Proof.Layers
public import Idealize.ShloMosaic.Lib.Affine
public import Idealize.ShloMosaic.Lib.StableHlo.Run

@[expose] public section

noncomputable section

namespace Cert.Proof.KernelRun

open Idealize.ShloMosaic Idealize.ShloMosaic.TcCoe Idealize.SL.Sem
open Cert.KernelIdeal Cert.KernelIdeal.Gen Cert.Proof.Layers
open Idealize.ShloMosaic.Pipeline (Dat Cfg Window)

variable (m : (ℓ : Loc nD τ sig) → Buf (Elt Ideal) ℓ) (ρ : Dev nD → PrngReg)

/-- The launch's one point. -/
def point : Fin cfg0.N := ⟨0, by decide⟩

/-! ## What the staged arrays hold when the launch starts -/

/-- The segment words, as a column. -/
theorem start_v0 (c : Dev nD) : V m c main_v0 = shapeCast S10000x1 (m ((c : Thread nD τ).loc main_arg4)) shapeCasts_S10000_S10000x1 := by
  unfold V
  after_results
  rfl
/-- The first weight array's rows for the globals. -/
theorem start_v1 (c : Dev nD) :
    V m c main_v1 = extractStridedSlice S6x512 ![0, 0] (m ((c : Thread nD τ).loc main_arg5)) slices_S134x512_S6x512_0_0 := by
  unfold V
  after_results
/-- The first weight array's rows for the segment means. -/
theorem start_v2 (c : Dev nD) :
    V m c main_v2 = extractStridedSlice S128x512 ![6, 0] (m ((c : Thread nD τ).loc main_arg5)) slices_S134x512_S128x512_6_0 := by
  unfold V
  after_results
/-- The first bias, as a row. -/
theorem start_v3 (c : Dev nD) : V m c main_v3 = shapeCast S1x512 (m ((c : Thread nD τ).loc main_arg6)) shapeCasts_S512_S1x512 := by
  unfold V
  after_results
  rfl
/-- The second bias, as a row. -/
theorem start_v4 (c : Dev nD) : V m c main_v4 = shapeCast S1x512 (m ((c : Thread nD τ).loc main_arg8)) shapeCasts_S512_S1x512 := by
  unfold V
  after_results
  rfl
/-- The third bias, as a row. -/
theorem start_v5 (c : Dev nD) : V m c main_v5 = shapeCast S1x128 (m ((c : Thread nD τ).loc main_arg10)) shapeCasts_S128_S1x128 := by
  unfold V
  after_results
  rfl

/-! ## The body's result -/

/-- Loads of whole buffers read the buffers, and the one store over the whole result leaves the payload. -/
theorem body_eq (x0 : Vec Ideal S10000x128 .f32) (x1 : Vec Ideal S10000x1 .i32) (x2 : Vec Ideal S64x6 .f32) (x3 : Vec Ideal S6x512 .f32)
    (x4 : Vec Ideal S128x512 .f32) (x5 : Vec Ideal S1x512 .f32) (x6 : Vec Ideal S512x512 .f32) (x7 : Vec Ideal S1x512 .f32)
    (x8 : Vec Ideal S512x128 .f32) (x9 : Vec Ideal S1x128 .f32) :
    out0_10 (F := Ideal) x0 x1 x2 x3 x4 x5 x6 x7 x8 x9
      = k0_pay1 (F := Ideal) (k0_pay2 (F := Ideal) x1 x0 x2 x3 x4 x5 x6 x7) (k0_pay3 (F := Ideal)) x8 x9 := by
  have hz : (![0, 0] : Fin 2 → Nat) = fun _ => 0 := funext fun a => by fin_cases a <;> rfl
  unfold out0_10
  rw [View.canon_unit_zero (S := S64x128) hz, View.ld_unit_zero (S := S10000x1) hz, View.ld_unit_zero (S := S10000x128) hz,
    View.ld_unit_zero (S := S64x6) hz, View.ld_unit_zero (S := S6x512) hz, View.ld_unit_zero (S := S128x512) hz,
    View.ld_unit_zero (S := S1x512) hz, View.ld_unit_zero (S := S512x512) hz, View.ld_unit_zero (S := S1x512) hz,
    View.ld_unit_zero (S := S512x128) hz, View.ld_unit_zero (S := S1x128) hz]

/-! ## The result array -/

/-- A window's block at the one point starts at the origin of its array. -/
theorem origin (k : Fin 2 → Nat) (n : Fin 2 → Nat) (hk : ∀ a, k a = 0) : (fun a => k a * n a) = fun _ => 0 :=
  funext fun a => by rw [hk a, Nat.zero_mul]

/-- The result array after the launch: the kernel's output of the arguments. -/
theorem final_value (c : Dev nD) :
    (dats (F := Ideal) m 0 c).arrAt (10 : Fin 11) cfg0.N
      = kernelOut (m ((c : Thread nD τ).loc main_arg0)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) := by
  have ho := Cert.KernelIdeal.Value.blocks10 (F := Ideal) m c point (by decide)
  rw [Cert.KernelIdeal.Value.flushed10] at ho
  have hw : ∀ f : (cfg0.win (10 : Fin 11)).arr.view.ty.Contents (Elt Ideal), ((cfg0.win (10 : Fin 11)).blk point).view.read (Elt Ideal) f = f := fun f =>
    Memref.read_access_unit_zero (Elt Ideal) main_v6 (origin _ _ fun a => by fin_cases a <;> decide) (fun a => by fin_cases a <;> decide) f
  rw [hw] at ho
  rw [ho, body_eq]
  have h0 : ∀ f : (cfg0.win (0 : Fin 11)).arr.view.ty.Contents (Elt Ideal), ((cfg0.win (0 : Fin 11)).blk point).view.read (Elt Ideal) f = f := fun f =>
    Memref.read_access_unit_zero (Elt Ideal) main_arg0 (origin _ _ fun a => by fin_cases a <;> decide) (fun a => by fin_cases a <;> decide) f
  have h1 : ∀ f : (cfg0.win (1 : Fin 11)).arr.view.ty.Contents (Elt Ideal), ((cfg0.win (1 : Fin 11)).blk point).view.read (Elt Ideal) f = f := fun f =>
    Memref.read_access_unit_zero (Elt Ideal) main_v0 (origin _ _ fun a => by fin_cases a <;> decide) (fun a => by fin_cases a <;> decide) f
  have h2 : ∀ f : (cfg0.win (2 : Fin 11)).arr.view.ty.Contents (Elt Ideal), ((cfg0.win (2 : Fin 11)).blk point).view.read (Elt Ideal) f = f := fun f =>
    Memref.read_access_unit_zero (Elt Ideal) main_arg3 (origin _ _ fun a => by fin_cases a <;> decide) (fun a => by fin_cases a <;> decide) f
  have h3 : ∀ f : (cfg0.win (3 : Fin 11)).arr.view.ty.Contents (Elt Ideal), ((cfg0.win (3 : Fin 11)).blk point).view.read (Elt Ideal) f = f := fun f =>
    Memref.read_access_unit_zero (Elt Ideal) main_v1 (origin _ _ fun a => by fin_cases a <;> decide) (fun a => by fin_cases a <;> decide) f
  have h4 : ∀ f : (cfg0.win (4 : Fin 11)).arr.view.ty.Contents (Elt Ideal), ((cfg0.win (4 : Fin 11)).blk point).view.read (Elt Ideal) f = f := fun f =>
    Memref.read_access_unit_zero (Elt Ideal) main_v2 (origin _ _ fun a => by fin_cases a <;> decide) (fun a => by fin_cases a <;> decide) f
  have h5 : ∀ f : (cfg0.win (5 : Fin 11)).arr.view.ty.Contents (Elt Ideal), ((cfg0.win (5 : Fin 11)).blk point).view.read (Elt Ideal) f = f := fun f =>
    Memref.read_access_unit_zero (Elt Ideal) main_v3 (origin _ _ fun a => by fin_cases a <;> decide) (fun a => by fin_cases a <;> decide) f
  have h6 : ∀ f : (cfg0.win (6 : Fin 11)).arr.view.ty.Contents (Elt Ideal), ((cfg0.win (6 : Fin 11)).blk point).view.read (Elt Ideal) f = f := fun f =>
    Memref.read_access_unit_zero (Elt Ideal) main_arg7 (origin _ _ fun a => by fin_cases a <;> decide) (fun a => by fin_cases a <;> decide) f
  have h7 : ∀ f : (cfg0.win (7 : Fin 11)).arr.view.ty.Contents (Elt Ideal), ((cfg0.win (7 : Fin 11)).blk point).view.read (Elt Ideal) f = f := fun f =>
    Memref.read_access_unit_zero (Elt Ideal) main_v4 (origin _ _ fun a => by fin_cases a <;> decide) (fun a => by fin_cases a <;> decide) f
  have h8 : ∀ f : (cfg0.win (8 : Fin 11)).arr.view.ty.Contents (Elt Ideal), ((cfg0.win (8 : Fin 11)).blk point).view.read (Elt Ideal) f = f := fun f =>
    Memref.read_access_unit_zero (Elt Ideal) main_arg9 (origin _ _ fun a => by fin_cases a <;> decide) (fun a => by fin_cases a <;> decide) f
  have h9 : ∀ f : (cfg0.win (9 : Fin 11)).arr.view.ty.Contents (Elt Ideal), ((cfg0.win (9 : Fin 11)).blk point).view.read (Elt Ideal) f = f := fun f =>
    Memref.read_access_unit_zero (Elt Ideal) main_v5 (origin _ _ fun a => by fin_cases a <;> decide) (fun a => by fin_cases a <;> decide) f
  unfold iblk
  rw [h0, h1, h2, h3, h4, h5, h6, h7, h8, h9]
  show k0_pay1 (F := Ideal) (k0_pay2 (F := Ideal) (V m c main_v0) (V m c main_arg0) (V m c main_arg3) (V m c main_v1) (V m c main_v2)
    (V m c main_v3) (V m c main_arg7) (V m c main_v4)) (k0_pay3 (F := Ideal)) (V m c main_arg9) (V m c main_v5) = _
  rw [start_v0, start_v1, start_v2, start_v3, start_v4, start_v5, V_main_arg0, V_main_arg3, V_main_arg7, V_main_arg9]
  rfl

/-- The kernel's run: the result array ends at the kernel's output of the arguments, and the arguments end unchanged. -/
theorem run : θ_run (defs (F := Ideal)) (onTc (τ := τ) (main (F := Ideal))) ⟨m, fun _ => 0, ρ⟩ (fun r => ∀ c : Dev nD,
    r.2.mem ((c.tc : Thread nD τ).loc main_v6)
      = kernelOut (m ((c : Thread nD τ).loc main_arg0)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)) :=
  (θ_run defs _ _).mono (fun _ h c => ⟨(h c).1.trans (final_value m c), (h c).2⟩) (Cert.KernelIdeal.Value.run_blocks (F := Ideal) m ρ)

end Cert.Proof.KernelRun

end
-- ==== Proof.lean ====
/-
  The proof of `Cert.Claim` (Defs.lean): the three frames, the idealization's preservation and the equality at the ideal values.
  The kernel's frames are generated and the reference's is its generated run. The equality sets the kernel's run with its value
  (Proof/KernelRun.lean) beside the reference's run; the two values are equal by Proof/Layers.lean, over Proof/Means.lean and
  Proof/SegmentSum.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.KernelRun
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel as it runs: it terminates, its arguments end unchanged and every semaphore reads zero again. -/
theorem frame_kernel : Cert.quiescent_Kernel := fun m ρ _ => Cert.Kernel.Gen.frame m ρ

/-- The same of the kernel read at the ideal values. -/
theorem frame_kernelIdeal : Cert.quiescent_KernelIdeal := fun m ρ _ => Cert.KernelIdeal.Gen.frame m ρ

/-- The same of the reference: its run leaves the arguments, and it declares no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel and the reference, from memories that agree on the arguments, end with equal results: the shared value is the
    kernel's output of the arguments, which is the reference's (`Layers.out_eq`). -/
theorem algebraic : Cert.algebraic_KernelIdeal_ReferenceIdeal := by
  intro m ρ m' ρ' _ hagree
  refine ⟨_, KernelRun.run m ρ, (θ_run Cert.ReferenceIdeal.defs _ _).mono (fun r h c => ⟨?_, (h c).2⟩)
    (Cert.ReferenceIdeal.Value.run (F := Ideal) m' ρ')⟩
  obtain ⟨h0, _, _, h3, h4, h5, h6, h7, h8, h9, h10⟩ := hagree c
  refine (h c).1.trans ?_
  rw [h0, h3, h4, h5, h6, h7, h8, h9, h10]
  exact (Layers.out_eq _ _ _ _ _ _ _ _ _).symm

/-- Every claim of the certificate, with the side conditions that the programs state. -/
theorem claim : Cert.Claim := ⟨Cert.Kernel.Gen.facts, Cert.KernelIdeal.Gen.facts, Cert.ReferenceIdeal.Gen.facts,
  frame_kernel, frame_kernelIdeal, frame_referenceIdeal, trivial, algebraic⟩
end Cert.Proof

end
